-- ==== Defs.lean ====
def Pre_Kernel [hPre_channels : Cert.Pre_channels.Facts] (m : (ℓ : Loc Cert.Kernel.nD Cert.Kernel.τ Cert.Kernel.sig) → Buf (Elt Bits) ℓ) : Prop :=
  ∀ c : Dev Cert.Kernel.nD,
    (Cert.Pre_channels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_channels : Cert.Pre_channels.Facts] (m : (ℓ : Loc Cert.KernelIdeal.nD Cert.KernelIdeal.τ Cert.KernelIdeal.sig) → Buf (Elt Ideal) ℓ) : Prop :=
  ∀ c : Dev Cert.KernelIdeal.nD,
    (Cert.Pre_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_channels [hPre_channels : Cert.Pre_channels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_channels : Cert.Pre_channels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_channels : Cert.Pre_channels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_channels [hReferenceIdeal : Cert.ReferenceIdeal.Facts] [hPre_channels : Cert.Pre_channels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_channels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_channels : Cert.Pre_channels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_channels : Cert.Pre_channels.Facts),
    quiescent_Kernel (hKernel := hKernel) (hPre_channels := hPre_channels)
    ∧ quiescent_KernelIdeal (hKernelIdeal := hKernelIdeal) (hPre_channels := hPre_channels)
    ∧ quiescent_ReferenceIdeal (hReferenceIdeal := hReferenceIdeal)
    ∧ quiescent_ReferenceIdeal_pre_channels (hReferenceIdeal := hReferenceIdeal) (hPre_channels := hPre_channels)
    ∧ preserves_Kernel_KernelIdeal
    ∧ algebraic_KernelIdeal_ReferenceIdeal (hKernelIdeal := hKernelIdeal) (hReferenceIdeal := hReferenceIdeal) (hPre_channels := hPre_channels)
-- ==== Pre_channels.lean ====
abbrev S4x4096x2048 : Shape := ⟨3, ![4, 4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S4x4096x2048 : Shape := ⟨3, ![4, 4096, 2048]⟩
abbrev S2048 : Shape := ⟨1, ![2048]⟩
abbrev S33554432 : Shape := ⟨1, ![33554432]⟩
abbrev S16384 : Shape := ⟨1, ![16384]⟩
abbrev S_ : Shape := ⟨0, ![]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S4x4096x2048, .f32⟩
  | .hbm, ⟨1, _⟩ => ⟨S2048, .i32⟩
  | .hbm, ⟨2, _⟩ => ⟨S33554432, .f32⟩
  | .hbm, ⟨3, _⟩ => ⟨S33554432, .f32⟩
  | .hbm, ⟨4, _⟩ => ⟨S4x4096x2048, .f32⟩
  | .local .scVector .vmem, ⟨0, _⟩ => ⟨S2048, .i32⟩
  | .local .scVector .vmem, ⟨1, _⟩ => ⟨S16384, .f32⟩
  | .local .scVector .vmem, ⟨2, _⟩ => ⟨S16384, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_2 : BitVec 32 := 64#32
  let v3 : BitVec 32 := Scalar.muli v1 c64_i32_2
  let c0_i32_0 : BitVec 32 := 0#32
  let c1_i32 : BitVec 32 := 1#32
  let arg8 : BitVec 32 := Scf.iv c0_i32_0 c1_i32 k0_t1
  let v4 : BitVec 32 := Scalar.addi v3 arg8
  let c16384_i32 : BitVec 32 := 16384#32
  let v5 : BitVec 32 := Scalar.muli v4 c16384_i32
  ![v5.toNat]
@[reducible] def k0_t2_loop : Scf.Loop 32 :=
  let c0_i32_4 : BitVec 32 := 0#32
  let c128_i32 : BitVec 32 := 128#32
  let v6 : BitVec 32 := Scalar.addi c0_i32_4 c128_i32
  let c1_i32_5 : BitVec 32 := 1#32
  ⟨c0_i32_4, v6, c1_i32_5⟩
def k0_off2 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32 : BitVec 32 := 16#32
  let v7 : BitVec 32 := Scalar.muli arg9 c16_i32
  let v8 : Index := Scalar.indexCast v7
  ![v8.toNat]

def k0_chk1 (v11 : IVec S16 32) : Prop :=
  (∀ a x, ((![v11] : Fin 1 → IVec S16 32) a x).toNat < S16384.size a)
theorem k0_idx1_inb : ∀ (v11 : IVec S16 32) (k0_hw1 : k0_chk1 v11), ∀ a x, ((![v11] : Fin 1 → IVec S16 32) a x).toNat < S16384.size a := fun v11 k0_hw1 => k0_hw1
def k0_off3 (k0_t2 : Fin k0_t2_loop.trips) : Fin 1 → Nat :=
  let c0_i32_9 : BitVec 32 := 0#32
  let c0_i32_4 : BitVec 32 := 0#32
  let c1_i32_5 : BitVec 32 := 1#32
  let arg9 : BitVec 32 := Scf.iv c0_i32_4 c1_i32_5 k0_t2
  let c16_i32_8 : BitVec 32 := 16#32
  let v13 : BitVec 32 := Scalar.muli arg9 c16_i32_8
  let v14 : BitVec 32 := Scalar.addi c0_i32_9 v13
  let v15 : Index := Scalar.indexCast v14
  ![v15.toNat]

def k0_chk2 (v18 : IVec S16 32) : Prop :=
  (∀ a x, ((![v18] : Fin 1 → IVec S16 32) a x).toNat < S16384.size a)
theorem k0_idx2_inb : ∀ (v18 : IVec S16 32) (k0_hw2 : k0_chk2 v18), ∀ a x, ((![v18] : Fin 1 → IVec S16 32) a x).toNat < S16384.size a := fun v18 k0_hw2 => k0_hw2
def k0_off4 (k0_t2 : Fin k0_t2_loop.trips) : Fin 1 → Nat :=
  let c2048_i32_11 : BitVec 32 := 2048#32
  let c0_i32_4 : BitVec 32 := 0#32
  let c1_i32_5 : BitVec 32 := 1#32
  let arg9 : BitVec 32 := Scf.iv c0_i32_4 c1_i32_5 k0_t2
  let c16_i32_10 : BitVec 32 := 16#32
  let v20 : BitVec 32 := Scalar.muli arg9 c16_i32_10
  let v21 : BitVec 32 := Scalar.addi c2048_i32_11 v20
  let v22 : Index := Scalar.indexCast v21
  ![v22.toNat]

def k0_chk3 (v25 : IVec S16 32) : Prop :=
  (∀ a x, ((![v25] : Fin 1 → IVec S16 32) a x).toNat < S16384.size a)
theorem k0_idx3_inb : ∀ (v25 : IVec S16 32) (k0_hw3 : k0_chk3 v25), ∀ a x, ((![v25] : Fin 1 → IVec S16 32) a x).toNat < S16384.size a := fun v25 k0_hw3 => k0_hw3
def k0_off5 (k0_t2 : Fin k0_t2_loop.trips) : Fin 1 → Nat :=
  let c4096_i32_13 : BitVec 32 := 4096#32
  let c0_i32_4 : BitVec 32 := 0#32
  let c1_i32_5 : BitVec 32 := 1#32
  let arg9 : BitVec 32 := Scf.iv c0_i32_4 c1_i32_5 k0_t2
  let c16_i32_12 : BitVec 32 := 16#32
  let v27 : BitVec 32 := Scalar.muli arg9 c16_i32_12
  let v28 : BitVec 32 := Scalar.addi c4096_i32_13 v27
  let v29 : Index := Scalar.indexCast v28
  ![v29.toNat]

def k0_chk4 (v32 : IVec S16 32) : Prop :=
  (∀ a x, ((![v32] : Fin 1 → IVec S16 32) a x).toNat < S16384.size a)
theorem k0_idx4_inb : ∀ (v32 : IVec S16 32) (k0_hw4 : k0_chk4 v32), ∀ a x, ((![v32] : Fin 1 → IVec S16 32) a x).toNat < S16384.size a := fun v32 k0_hw4 => k0_hw4
def k0_off6 (k0_t2 : Fin k0_t2_loop.trips) : Fin 1 → Nat :=
  let c6144_i32_15 : BitVec 32 := 6144#32
  let c0_i32_4 : BitVec 32 := 0#32
  let c1_i32_5 : BitVec 32 := 1#32
  let arg9 : BitVec 32 := Scf.iv c0_i32_4 c1_i32_5 k0_t2
  let c16_i32_14 : BitVec 32 := 16#32
  let v34 : BitVec 32 := Scalar.muli arg9 c16_i32_14
  let v35 : BitVec 32 := Scalar.addi c6144_i32_15 v34
  let v36 : Index := Scalar.indexCast v35
  ![v36.toNat]

def k0_chk5 (v39 : IVec S16 32) : Prop :=
  (∀ a x, ((![v39] : Fin 1 → IVec S16 32) a x).toNat < S16384.size a)
theorem k0_idx5_inb : ∀ (v39 : IVec S16 32) (k0_hw5 : k0_chk5 v39), ∀ a x, ((![v39] : Fin 1 → IVec S16 32) a x).toNat < S16384.size a := fun v39 k0_hw5 => k0_hw5
def k0_off7 (k0_t2 : Fin k0_t2_loop.trips) : Fin 1 → Nat :=
  let c8192_i32_17 : BitVec 32 := 8192#32
  let c0_i32_4 : BitVec 32 := 0#32
  let c1_i32_5 : BitVec 32 := 1#32
  let arg9 : BitVec 32 := Scf.iv c0_i32_4 c1_i32_5 k0_t2
  let c16_i32_16 : BitVec 32 := 16#32
  let v41 : BitVec 32 := Scalar.muli arg9 c16_i32_16
  let v42 : BitVec 32 := Scalar.addi c8192_i32_17 v41
  let v43 : Index := Scalar.indexCast v42
  ![v43.toNat]

def k0_chk6 (v46 : IVec S16 32) : Prop :=
  (∀ a x, ((![v46] : Fin 1 → IVec S16 32) a x).toNat < S16384.size a)
theorem k0_idx6_inb : ∀ (v46 : IVec S16 32) (k0_hw6 : k0_chk6 v46), ∀ a x, ((![v46] : Fin 1 → IVec S16 32) a x).toNat < S16384.size a := fun v46 k0_hw6 => k0_hw6
def k0_off8 (k0_t2 : Fin k0_t2_loop.trips) : Fin 1 → Nat :=
  let c10240_i32_19 : BitVec 32 := 10240#32
  let c0_i32_4 : BitVec 32 := 0#32
  let c1_i32_5 : BitVec 32 := 1#32
  let arg9 : BitVec 32 := Scf.iv c0_i32_4 c1_i32_5 k0_t2
  let c16_i32_18 : BitVec 32 := 16#32
  let v48 : BitVec 32 := Scalar.muli arg9 c16_i32_18
  let v49 : BitVec 32 := Scalar.addi c10240_i32_19 v48
  let v50 : Index := Scalar.indexCast v49
  ![v50.toNat]

def k0_chk7 (v53 : IVec S16 32) : Prop :=
  (∀ a x, ((![v53] : Fin 1 → IVec S16 32) a x).toNat < S16384.size a)
theorem k0_idx7_inb : ∀ (v53 : IVec S16 32) (k0_hw7 : k0_chk7 v53), ∀ a x, ((![v53] : Fin 1 → IVec S16 32) a x).toNat < S16384.size a := fun v53 k0_hw7 => k0_hw7
def k0_off9 (k0_t2 : Fin k0_t2_loop.trips) : Fin 1 → Nat :=
  let c12288_i32_21 : BitVec 32 := 12288#32
  let c0_i32_4 : BitVec 32 := 0#32
  let c1_i32_5 : BitVec 32 := 1#32
  let arg9 : BitVec 32 := Scf.iv c0_i32_4 c1_i32_5 k0_t2
  let c16_i32_20 : BitVec 32 := 16#32
  let v55 : BitVec 32 := Scalar.muli arg9 c16_i32_20
  let v56 : BitVec 32 := Scalar.addi c12288_i32_21 v55
  let v57 : Index := Scalar.indexCast v56
  ![v57.toNat]

def k0_chk8 (v60 : IVec S16 32) : Prop :=
  (∀ a x, ((![v60] : Fin 1 → IVec S16 32) a x).toNat < S16384.size a)
theorem k0_idx8_inb : ∀ (v60 : IVec S16 32) (k0_hw8 : k0_chk8 v60), ∀ a x, ((![v60] : Fin 1 → IVec S16 32) a x).toNat < S16384.size a := fun v60 k0_hw8 => k0_hw8
def k0_off10 (k0_t2 : Fin k0_t2_loop.trips) : Fin 1 → Nat :=
  let c14336_i32_23 : BitVec 32 := 14336#32
  let c0_i32_4 : BitVec 32 := 0#32
  let c1_i32_5 : BitVec 32 := 1#32
  let arg9 : BitVec 32 := Scf.iv c0_i32_4 c1_i32_5 k0_t2
  let c16_i32_22 : BitVec 32 := 16#32
  let v62 : BitVec 32 := Scalar.muli arg9 c16_i32_22
  let v63 : BitVec 32 := Scalar.addi c14336_i32_23 v62
  let v64 : Index := Scalar.indexCast v63
  ![v64.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S4x4096x2048, .f32⟩
  | .hbm, ⟨21, _⟩ => ⟨S4x4096x2048, .i1⟩
  | .hbm, ⟨22, _⟩ => ⟨S_, .f32⟩
  | .hbm, ⟨23, _⟩ => ⟨S4x4096x2048, .f32⟩
  | .hbm, ⟨24, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Columns.lean ====
/-
  THE REFERENCE'S VALUE. `jnp.take(x, idx, axis=-1)` over a table of columns: element `(b, t, k)` of the result is element
  `(b, t, idx[k])` of `x`. The reference prints it as a gather guarded by a range test of the table; with every word of
  the table in range the guard passes everywhere and the gather's clamping changes nothing (`take_eq`).
-/
module

public import proofs.«01_k».proof.Defs
public import Idealize.ShloMosaic.Lib.ReduceAll
public import proofs.«01_k».proof.Proof.Gen.ReferenceIdeal
public import proofs.«01_k».proof.Proof.Gen.ReferenceIdeal.Run
public import proofs.«01_k».proof.Proof.Gen.Pre_channels

@[expose] public section

noncomputable section

namespace Cert.Proof.Columns

open Idealize.ShloMosaic Idealize.SL.Sem

/-- The shape of `x`, -/
abbrev Cube : Shape := ⟨3, ![4, 4096, 2048]⟩
/-- and of the table of columns. -/
abbrev Row : Shape := ⟨1, ![2048]⟩

/-- The column of an index, as an index of the table. -/
def colIx (j : Cube.Idx) : Row.Idx := fun | ⟨0, _⟩ => j 2

/-- The index in the same row at column `n` (modulo the row's length). -/
def moved (j : Cube.Idx) (n : ℕ) : Cube.Idx
  | ⟨0, _⟩ => j 0
  | ⟨1, _⟩ => j 1
  | ⟨2, _⟩ => ⟨n % 2048, Nat.mod_lt _ (by decide)⟩

/-- The columns of `x` taken by the table `ix`. -/
def Taken {α : Type} (x : Cube.Idx → α) (ix : Row.Idx → BitVec 32) : Cube.Idx → α := fun j => x (moved j (ix (colIx j)).toNat)

/-! ## A word in range -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- Not negative and below 2048 as a signed word: its value is below 2048. -/
theorem word_lt (v : BitVec 32) (e : IntOp.andi (IntOp.cmpi .sge v 0#32) (IntOp.cmpi .slt v 2048#32) = 1#1) : v.toNat < 2048 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A word below 2048 passes the reference's range test. -/
theorem word_in (v : BitVec 32) (h : v.toNat < 2048) : IntOp.andi (IntOp.cmpi .sge v 0#32) (IntOp.cmpi .sle v 2047#32) = 1#1 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod]
  omega

/-- and is not negative. -/
theorem word_nonneg (v : BitVec 32) (h : v.toNat < 2048) : IntOp.cmpi .slt v 0#32 ≠ 1#1 := by
  simp only [IntOp.cmpi, ne_eq, ofBool_eq_one, BitVec.slt_eq_decide,
    decide_eq_true_eq, BitVec.toInt_eq_toNat_cond, BitVec.toNat_ofNat, Nat.reducePow, Nat.reduceMod]
  omega

/-- Its signed value is its value. -/
theorem word_toInt (v : BitVec 32) (h : v.toNat < 2048) : v.toInt.toNat = v.toNat := by
  rw [BitVec.toInt_eq_toNat_cond]; split <;> omega

/-- The precondition, an `all` over the elementwise range test, gives the range of every word of the table. -/
theorem in_range {F : FTy → Type} [FloatOps F] (x : FVec F Cube .f32) (ix : IVec Row 32)
    (h : (haveI := Cert.Pre_channels.Gen.facts; Cert.Pre_channels.fn (F := F) x ix) = fun _ => 1#1) (k : Row.Idx) : (ix k).toNat < 2048 := by
  haveI := Cert.Pre_channels.Gen.facts
  have e := congrFun h (fun a => a.elim0)
  unfold Cert.Pre_channels.fn at e
  dsimp only at e
  haveI : Subsingleton Cert.Pre_channels.S_.Idx := ⟨fun a b => funext fun i => i.elim0⟩
  exact word_lt _ (Host.reduce_andi_all _ _ _ _ _ e k)

/-! ## The reference -/

open Cert.ReferenceIdeal Cert.ReferenceIdeal.Gen

/-- The table after the reference's wrap of negative words: unchanged, none being negative. -/
theorem wrap_eq (ix : IVec S2048 32) (hix : ∀ k, (ix k).toNat < 2048) :
    select (cmpi .slt ix (broadcastInDim S2048 ![] bcast_S_S2048 (constantI S_ 32 0#32)))
      (addi ix (broadcastInDim S2048 ![] bcast_S_S2048 (constantI S_ 32 2048#32))) ix = ix :=
  funext fun k => if_neg (word_nonneg _ (hix k))

/-- The reference's gather: whole rows, the last axis read at the table. -/
abbrev dims : GatherDims S4x4096x2048 S2048x1 S4x4096x2048 := gather_S4x4096x2048_S2048x1_S4x4096x2048_01_2_n_n_2_1_440961

/-- Where the gather reads its table for result index `j`: at `j`'s column. -/
theorem table_at (ix : IVec S2048 32) (j : S4x4096x2048.Idx) (c : Fin dims.startIndexMap.length) :
    broadcastInDim S2048x1 ![0] bcast_S2048_S2048x1_0 ix (dims.siIdx j c) = ix (colIx j) := by
  unfold broadcastInDim
  refine congrArg ix (funext fun a => ?_)
  match a with
  | ⟨0, _⟩ => rfl

/-- The gather reads row `(b, t)` at the table's column. -/
theorem gather_eq {α : Type} (x : S4x4096x2048.Idx → α) (ix : IVec S2048 32) (hix : ∀ k, (ix k).toNat < 2048) :
    Host.gather dims x (broadcastInDim S2048x1 ![0] bcast_S2048_S2048x1_0 ix) = Taken x ix := by
  funext j
  unfold Host.gather Taken
  refine congrArg x (funext fun a => Fin.ext ?_)
  match a with
  | ⟨0, _⟩ => exact (Nat.zero_add _).trans rfl
  | ⟨1, _⟩ => exact (Nat.zero_add _).trans rfl
  | ⟨2, _⟩ =>
    show dims.start j _ 2 + dims.batchCoord j 2 + dims.offCoord j 2 = (ix (colIx j)).toNat % 2048
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 3) ∈ dims.startIndexMap from List.mem_singleton.mpr rfl), table_at, word_toInt _ (hix _)]
    show min _ (2048 - 1) + 0 + 0 = _
    have := hix (colIx j)
    omega

/-- The reference's term is the columns taken, when every word of the table names a column. -/
theorem take_eq {F : FTy → Type} [FloatOps F] (x : FVec F S4x4096x2048 .f32) (ix : IVec S2048 32) (hix : ∀ k, (ix k).toNat < 2048) :
    select (broadcastInDim S4x4096x2048 ![2] bcast_S2048_S4x4096x2048_2 (Host.reduce IntOp.andi (andi
        (cmpi .sge (broadcastInDim S2048x1 ![0] bcast_S2048_S2048x1_0 ix) (broadcastInDim S2048x1 ![] bcast_S_S2048x1 (constantI S_ 32 0#32)))
        (cmpi .sle (broadcastInDim S2048x1 ![0] bcast_S2048_S2048x1_0 ix)
          (broadcastInDim S2048x1 ![0, 1] bcast_S1x1_S2048x1_0_1 (broadcastInDim S1x1 ![1] bcast_S1_S1x1_1 (constantI S1 32 2047#32)))))
        (constantI S_ 1 1#1) reducesTo_S2048x1_S2048_d1 h_S_))
      (Host.gather dims x (broadcastInDim S2048x1 ![0] bcast_S2048_S2048x1_0 ix))
      (broadcastInDim S4x4096x2048 ![] bcast_S_S4x4096x2048 (constant S_ .f32 0x7FC00000#32)) = Taken x ix := by
  rw [gather_eq x ix hix]
  funext j
  exact if_pos (Host.reduce_andi_one _ _ _ _ _ rfl fun k => word_in _ (hix _))

/-- Every run of the reference ends with the columns taken in its result and its arguments unchanged. -/
theorem run {F : FTy → Type} [FloatOps F] (m : (ℓ : Loc nD τ sig) → Buf (Elt F) ℓ) (ρ : Dev nD → PrngReg)
    (hix : ∀ (c : Dev nD) (k : S2048.Idx), (m ((c.tc : Thread nD τ).loc main_arg1) k : BitVec 32).toNat < 2048) :
    θ_run defs (onTc (τ := τ) (main (F := F))) ⟨m, fun _ => 0, ρ⟩ fun r => ∀ c : Dev nD,
      r.2.mem ((c.tc : Thread nD τ).loc main_v0) = Taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [wrap_eq _ (hix c)]; exact take_eq _ _ (hix c)), (h c).2⟩)
    (Cert.ReferenceIdeal.Value.run m ρ)

end Cert.Proof.Columns

end
-- ==== Proof.KernelIdealTask.lean ====
/-
  ONE VECTOR SUBCORE'S TASK of the shuffle kernel, run at a symbolic pair of SparseCore and subcore.

  The array `x` is read flat. The subcore's task owns the 1048576 consecutive elements of the output that start at
  `2097152 * (subcore) + 1048576 * (SparseCore)`, and fills them in 64 chunks of 16384 elements (eight rows of 2048):
  each chunk is copied in, its rows are permuted by the fetched column table in 128 groups of 16 columns, and the
  permuted chunk is copied out. The value is carried in every invariant: what the task leaves at element `n` of its
  block is element `n - n % 2048 + table[n % 2048]` of `x` (`Shuffled`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.KernelIdealTask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The elements, by number -/

/-- Element number `n` of a flat array (number `n` modulo the extent, so that every number names an element). -/
def pos {N : ℕ} [NeZero N] (n : ℕ) : (⟨1, ![N]⟩ : Shape).Idx := fun a => ⟨n % N, by
  obtain rfl : a = 0 := Subsingleton.elim _ _
  exact Nat.mod_lt _ (Nat.pos_of_ne_zero (NeZero.ne N))⟩

theorem pos_val {N : ℕ} [NeZero N] (n : ℕ) (h : n < N) : ((pos n : (⟨1, ![N]⟩ : Shape).Idx) 0).val = n := Nat.mod_eq_of_lt h

/-- An index of a flat array is the element its number names. -/
theorem eq_pos {N : ℕ} [NeZero N] (j : (⟨1, ![N]⟩ : Shape).Idx) (n : ℕ) (h : (j 0).val = n) : j = pos n := by
  funext a
  obtain rfl : a = 0 := Subsingleton.elim _ _
  have hj : (j 0).val < N := (j 0).isLt
  exact Fin.ext ((Nat.mod_eq_of_lt hj).symm.trans (congrArg (· % N) h))

instance : NeZero 16384 := ⟨by decide⟩
instance : NeZero 33554432 := ⟨by decide⟩
instance : NeZero 2048 := ⟨by decide⟩

/-- The flat result: element `n` is element `n - n % 2048 + table[n % 2048]` of `x`: the same row, the table's column. -/
def Shuffled (x : S33554432.Idx → Elt F .f32) (ix : S2048.Idx → Elt F .i32) : S33554432.Idx → Elt F .f32 :=
  fun j => x (pos ((j 0).val / 2048 * 2048 + (ix (pos ((j 0).val % 2048)) : BitVec 32).toNat))

/-- The permuted chunk `f` is filled from the chunk `xin` in columns below `16 * g`, and for the next sixteen columns in
    the first `n` rows. -/
def RowsDone (f xin : S16384.Idx → Elt F .f32) (ix : S2048.Idx → Elt F .i32) (g n : ℕ) : Prop :=
  ∀ j : S16384.Idx, ((j 0).val % 2048 < 16 * g ∨ ((j 0).val % 2048 < 16 * g + 16 ∧ (j 0).val / 2048 < n)) →
    f j = xin (pos ((j 0).val / 2048 * 2048 + (ix (pos ((j 0).val % 2048)) : BitVec 32).toNat))

theorem RowsDone.zero (f xin : S16384.Idx → Elt F .f32) (ix : S2048.Idx → Elt F .i32) : RowsDone f xin ix 0 0 := by
  intro j h; omega

theorem RowsDone.next {f xin : S16384.Idx → Elt F .f32} {ix : S2048.Idx → Elt F .i32} {g : ℕ} (h : RowsDone f xin ix g 8) :
    RowsDone f xin ix (g + 1) 0 := by
  intro j hj
  have : (j 0).val < 16384 := (j 0).isLt
  exact h j (by omega)

section Task

variable [FloatOps F] (d : Dev nD) (L : grid0.Coords)

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

-- the kernel's memrefs, spelt as the body table passes them
local notation "xW" => (Memref.whole Cert.KernelIdeal.main_v0_scv : Memref Cert.KernelIdeal.sig Kind.scVector Space.hbm Cert.KernelIdeal.S33554432 EltTy.f32)
local notation "iW" => (Memref.whole Cert.KernelIdeal.main_arg1_scv : Memref Cert.KernelIdeal.sig Kind.scVector Space.hbm Cert.KernelIdeal.S2048 EltTy.i32)
local notation "oW" => (Memref.whole Cert.KernelIdeal.main_v1_scv : Memref Cert.KernelIdeal.sig Kind.scVector Space.hbm Cert.KernelIdeal.S33554432 EltTy.f32)
local notation "sI" => (Memref.whole Cert.KernelIdeal.cc0_scratch0 : Memref Cert.KernelIdeal.sig Kind.scVector Space.vmem Cert.KernelIdeal.S2048 EltTy.i32)
local notation "sX" => (Memref.whole Cert.KernelIdeal.cc0_scratch1 : Memref Cert.KernelIdeal.sig Kind.scVector Space.vmem Cert.KernelIdeal.S16384 EltTy.f32)
local notation "sO" => (Memref.whole Cert.KernelIdeal.cc0_scratch2 : Memref Cert.KernelIdeal.sig Kind.scVector Space.vmem Cert.KernelIdeal.S16384 EltTy.f32)

/-! ## One row of one group: the check, the indexed load, and the store of sixteen elements -/

omit [FloatOps F] in
/-- Storing, at columns `16 g … 16 g + 15` of row `r`, the elements of the chunk the table's words name there, fills that row. -/
theorem RowsDone.step {f xin : S16384.Idx → Elt F .f32} {ix : S2048.Idx → Elt F .i32} {g r : ℕ} (hg : g < 128) (hr : r < 8)
    (hf : RowsDone f xin ix g r) (off : Fin 1 → ℕ) (hin : ∀ a, off a + S16.size a ≤ S16384.size a) (hoff : off = ![16 * g + 2048 * r])
    (w : S16.Idx → Elt F .f32)
    (hw : ∀ y : S16.Idx, w y = xin (pos (r * 2048 + (ix (pos (16 * g + (y 0).val)) : BitVec 32).toNat))) :
    RowsDone ((sO).view.writes (Elt F) f [⟨Rect.unit (s := S16384) off S16.size hin, w⟩]) xin ix g (r + 1) := by
  intro j hj
  have hj0 : (j 0).val < 16384 := (j 0).isLt
  show (sO).view.read (Elt F) ((sO).view.writes (Elt F) f [⟨Rect.unit (s := S16384) off S16.size hin, w⟩]) j = _
  by_cases hin' : 16 * g + 2048 * r ≤ (j 0).val ∧ (j 0).val < 16 * g + 2048 * r + 16
  · have hx : (j 0).val - (16 * g + 2048 * r) < 16 := by omega
    rw [View.read_writes_cons_unit_of_mem (sO).view f hin w [] j (fun a => ⟨(j 0).val - (16 * g + 2048 * r), by
        obtain rfl : a = (0 : Fin 1) := Subsingleton.elim (α := Fin 1) _ _
        exact hx⟩) hoff (by
        intro a
        obtain rfl : a = (0 : Fin 1) := Subsingleton.elim (α := Fin 1) _ _
        show (j 0).val = 16 * g + 2048 * r + ((j 0).val - (16 * g + 2048 * r))
        omega), hw]
    have h1 : (j 0).val / 2048 = r := by omega
    have h2 : (j 0).val % 2048 = 16 * g + ((j 0).val - (16 * g + 2048 * r)) := by omega
    rw [h1, h2]
  · rw [View.read_writes_cons_unit_of_not_mem (sO).view f hin w [] j hoff 0 (by
      show (j 0).val < 16 * g + 2048 * r ∨ 16 * g + 2048 * r + 16 ≤ (j 0).val
      omega)]
    exact hf j (by omega)

omit [FloatOps F] in
/-- A table word below 2048 plus a row's start does not wrap. -/
theorem word_add (v : IVec S16 32) (r : ℕ) (hr : r < 8) (x : S16.Idx) (h : (v x).toNat < 2048) :
    ((addi v (broadcast S16 (BitVec.ofNat 32 (2048 * r)))) x).toNat = (v x).toNat + 2048 * r := by
  show (v x + BitVec.ofNat 32 (2048 * r)).toNat = _
  rw [BitVec.toNat_add, BitVec.toNat_ofNat]
  omega

/-- The gather of a row: the check passes, and what the indexed load returns is the chunk `xin`, in row `r`, at the columns
    the table's words name. `v` is the table's group `v9` plus the row's start. -/
theorem wp_gather {α : Type} {Q : α → sProp 𝕄} (R : sProp 𝕄) {xin : S16384.Idx → Elt F .f32} {ix : S2048.Idx → Elt F .i32} {g : ℕ} (r : ℕ)
    (hr : r < 8) (hix : ∀ j, (ix j : BitVec 32).toNat < 2048)
    {chk : Prop} {dec : Decidable chk} {v v9 : IVec S16 32} {hidx : chk → ∀ a x, ((![v] : Fin 1 → IVec S16 32) a x).toNat < S16384.size a}
    (hchk : chk = ∀ a x, ((![v] : Fin 1 → IVec S16 32) a x).toNat < S16384.size a)
    (hv : v = addi v9 (broadcast S16 (BitVec.ofNat 32 (2048 * r))))
    (h9 : ∀ y : S16.Idx, v9 y = ix (pos (16 * g + (y 0).val)))
    {hl : (sX).view.Loads} {k : PLift chk → (S16.Idx → Elt F .f32) → Prog (TpuEff nD τ sig (Elt F) Λ₀ (thr d L).2) α}
    (hk : ∀ h w, (∀ y : S16.Idx, w y = xin (pos (r * 2048 + (ix (pos (16 * g + (y 0).val)) : BitVec 32).toNat))) →
      iprop(R ∗ ((sX).view.loc (thr d L) ↦{fullShare} xin)) ⊢ wp frame (wpE (defs₀ (F := F)) 𝒱₀ (thr d L) none) Set.univ (k h w) Q) :
    iprop(R ∗ ((sX).view.loc (thr d L) ↦{fullShare} xin))
      ⊢ wp frame (wpE (defs₀ (F := F)) 𝒱₀ (thr d L) none) Set.univ
          (.op (.assume chk dec) fun h => SparseCore.vectorLoadIdx (sX) ![v] (hidx h.down) hl >>= k h) Q := by
  have hval : ∀ y : S16.Idx, (v y).toNat = (ix (pos (16 * g + (y 0).val)) : BitVec 32).toNat + 2048 * r := by
    intro y
    rw [hv, word_add v9 r hr y (by rw [h9]; exact hix _), h9]
  have hc : chk := by
    rw [hchk]; intro a y
    obtain rfl : a = 0 := Subsingleton.elim _ _
    show (v y).toNat < 16384
    have := hix (pos (16 * g + (y 0).val))
    rw [hval]; omega
  rw [wp_assume_of _ _ _ _ hc]
  iintro ⟨HR, Hx⟩
  iapply (SparseCore.wp_vectorLoadIdx 𝒱₀ (thr d L) none Set.univ (base := (sX)) (S := Finset.univ) (q := fullShare) (f := xin) (Finset.subset_univ _)) $$ Hx; iintro Hx
  iapply (hk _ _ fun y => ?_) $$ [HR Hx]
  rotate_left
  · isplitl [HR]; · iexact HR
    iexact Hx
  · show xin _ = xin _
    congr 1
    refine eq_pos _ _ ?_
    show 0 + 1 * (v y).toNat = _
    have := hix (pos (16 * g + (y 0).val))
    rw [hval]; omega

/-- The store of a row: storing the gathered elements `w` at the row's columns fills row `r` of the group. -/
theorem wp_put {α : Type} {Q : α → sProp 𝕄} (R : sProp 𝕄) {xin f : S16384.Idx → Elt F .f32} {ix : S2048.Idx → Elt F .i32} {g : ℕ} (r : ℕ)
    (hg : g < 128) (hr : r < 8) (hf : RowsDone f xin ix g r)
    {off : Fin 1 → ℕ} {hin : ∀ a, off a + S16.size a ≤ S16384.size a} (hoff : off = ![16 * g + 2048 * r])
    {w : S16.Idx → Elt F .f32} (hw : ∀ y : S16.Idx, w y = xin (pos (r * 2048 + (ix (pos (16 * g + (y 0).val)) : BitVec 32).toNat)))
    {hl' : (sO).view.LoadsAt (Rect.unit (s := S16384) off S16.size hin).toLoadRect}
    {hs : ((sO).access (Rect.unit (s := S16384) off S16.size hin)).Stores Finset.univ}
    {hm : Finset.univ = Finset.univ ∨ ∀ a, (Rect.unit (s := S16384) off S16.size hin).stride a = 1}
    {k : Prog (TpuEff nD τ sig (Elt F) Λ₀ (thr d L).2) α}
    (hk : ∀ f', RowsDone f' xin ix g (r + 1) →
      iprop(R ∗ ((sO).view.loc (thr d L) ↦{fullShare} f'))
        ⊢ wp frame (wpE (defs₀ (F := F)) 𝒱₀ (thr d L) none) Set.univ k Q) :
    iprop(R ∗ ((sO).view.loc (thr d L) ↦{fullShare} f))
      ⊢ wp frame (wpE (defs₀ (F := F)) 𝒱₀ (thr d L) none) Set.univ
          (.op (.load (sO) (Rect.unit (s := S16384) off S16.size hin).toLoadRect hl') fun _ =>
            .op (.store (sO) (Rect.unit (s := S16384) off S16.size hin) w Finset.univ hs hm) fun _ => k) Q := by
  iintro ⟨HR, Ho⟩
  iapply (wp_load 𝒱₀ (thr d L) none Set.univ (m := (sO)) (S := Finset.univ) (Finset.subset_univ _)) $$ Ho; iintro Ho
  iapply (wp_store_writes₀ 𝒱₀ (thr d L) none Set.univ (m := (sO)) (r := Rect.unit (s := S16384) off S16.size hin) (hx := hs) (hm := hm) (f := f) (S := Finset.univ) (Finset.subset_univ _)) $$ Ho; iintro Ho
  iapply (hk _ (RowsDone.step hg hr hf off hin hoff _ hw)) $$ [HR Ho]
  isplitl [HR]; · iexact HR
  iexact Ho

/-- The state between the steps of a group: the table, the chunk, and the permuted chunk. -/
abbrev scratch (d : Dev nD) (L : grid0.Coords) (ix : S2048.Idx → Elt F .i32) (xin f : S16384.Idx → Elt F .f32) : sProp 𝕄 :=
  iprop((((sI).view.loc (thr d L) ↦{fullShare} ix) ∗ ((sX).view.loc (thr d L) ↦{fullShare} xin)) ∗ ((sO).view.loc (thr d L) ↦{fullShare} f))

omit [FloatOps F] in
theorem scratch_swap (ix : S2048.Idx → Elt F .i32) (xin f : S16384.Idx → Elt F .f32) :
    scratch d L ix xin f ⊢ iprop((((sI).view.loc (thr d L) ↦{fullShare} ix) ∗ ((sO).view.loc (thr d L) ↦{fullShare} f)) ∗ ((sX).view.loc (thr d L) ↦{fullShare} xin)) := by
  iintro ⟨⟨Hi, Hx⟩, Ho⟩
  isplitr [Hx]; · (isplitl [Hi]; · iexact Hi
                   iexact Ho)
  iexact Hx

omit [FloatOps F] in
theorem scratch_swap_back (ix : S2048.Idx → Elt F .i32) (xin f : S16384.Idx → Elt F .f32) :
    iprop((((sI).view.loc (thr d L) ↦{fullShare} ix) ∗ ((sO).view.loc (thr d L) ↦{fullShare} f)) ∗ ((sX).view.loc (thr d L) ↦{fullShare} xin)) ⊢ scratch d L ix xin f := by
  iintro ⟨⟨Hi, Ho⟩, Hx⟩
  isplitr [Ho]; · (isplitl [Hi]; · iexact Hi
                   iexact Hx)
  iexact Ho

/-! ## One group of sixteen columns -/

omit [FloatOps F] in
/-- The table's words a group loads are the table's at the group's sixteen columns. -/
theorem load_group (ix : S2048.Idx → Elt F .i32) (g : ℕ) (hg : g < 128) (off : Fin 1 → ℕ) (hin : ∀ a, off a + S16.size a ≤ S2048.size a)
    (hoff : off = ![16 * g]) (y : S16.Idx) :
    (sI).view.readAt (Elt F) (Rect.unit (s := S2048) off S16.size hin).toLoadRect ix y = ix (pos (16 * g + (y 0).val)) := by
  subst hoff
  show ix _ = ix _
  congr 1
  refine eq_pos _ _ ?_
  show 16 * g + 1 * (y 0).val = _
  omega

/-- A group's eight rows: from the fetched table, the chunk and the permuted chunk filled below the group's columns, the
    permuted chunk is filled below the next group's. -/
theorem group_run {ix : S2048.Idx → Elt F .i32} {xin f : S16384.Idx → Elt F .f32} (hix : ∀ j, (ix j : BitVec 32).toNat < 2048)
    (t : Fin k0_t2_loop.trips) (hf : RowsDone f xin ix t.val 0) :
    scratch d L ix xin f
      ⊢ wp frame (wpE (defs₀ (F := F)) 𝒱₀ (thr d L) none) Set.univ
          (k0_t2_body L xW (Memref.isWhole_whole _) iW (Memref.isWhole_whole _) oW (Memref.isWhole_whole _)
            sI (Memref.isWhole_whole _) sX (Memref.isWhole_whole _) sO (Memref.isWhole_whole _) cc0_scoped0 cc0_scoped1 cc0_scoped2 t ())
          fun _ => iprop(∃ f', ⌜RowsDone f' xin ix (t.val + 1) 0⌝ ∗ scratch d L ix xin f') := by
  have hg : t.val < 128 := Nat.lt_of_lt_of_le t.isLt k0_t2_abs.2.1
  unfold k0_t2_body
  simp only [k0_part1_eq_skeleton]
  unfold k0_part1_skel
  simp only [Prog.lift, Prog.bind_op, Prog.bind_ret, Prog.pure_eq_ret, Prog.bind_assoc]
  iintro ⟨⟨Hi, Hx⟩, Ho⟩
  iapply (wp_load 𝒱₀ (thr d L) none Set.univ (m := (sI)) (S := Finset.univ) (Finset.subset_univ _)) $$ Hi; iintro Hi
  generalize h9 : (sI).view.readAt (Elt F) _ ix = v9
  replace h9 : ∀ y : S16.Idx, v9 y = ix (pos (16 * t.val + (y 0).val)) := fun y =>
    (congrFun h9 y).symm.trans (load_group ix t.val hg _ _ (k0_off2_eq t) y)
  iapply ((scratch_swap d L ix xin f).trans (wp_gather d L _ 0 (by decide) hix rfl rfl h9 fun _ w₀ hw₀ => ?_)) $$ [Hi Hx Ho]
  rotate_left
  · isplitr [Ho]; · (isplitl [Hi]; · iexact Hi
                     iexact Hx)
    iexact Ho
  refine (scratch_swap_back d L ix xin f).trans (wp_put d L _ 0 hg (by decide) hf (k0_off3_eq t) hw₀ fun f₁ h₁ => ?_)
  refine (scratch_swap d L ix xin f₁).trans (wp_gather d L _ 1 (by decide) hix rfl rfl h9 fun _ w₁ hw₁ => ?_)
  refine (scratch_swap_back d L ix xin f₁).trans (wp_put d L _ 1 hg (by decide) h₁ (k0_off4_eq t) hw₁ fun f₂ h₂ => ?_)
  refine (scratch_swap d L ix xin f₂).trans (wp_gather d L _ 2 (by decide) hix rfl rfl h9 fun _ w₂ hw₂ => ?_)
  refine (scratch_swap_back d L ix xin f₂).trans (wp_put d L _ 2 hg (by decide) h₂ (k0_off5_eq t) hw₂ fun f₃ h₃ => ?_)
  refine (scratch_swap d L ix xin f₃).trans (wp_gather d L _ 3 (by decide) hix rfl rfl h9 fun _ w₃ hw₃ => ?_)
  refine (scratch_swap_back d L ix xin f₃).trans (wp_put d L _ 3 hg (by decide) h₃ (k0_off6_eq t) hw₃ fun f₄ h₄ => ?_)
  refine (scratch_swap d L ix xin f₄).trans (wp_gather d L _ 4 (by decide) hix rfl rfl h9 fun _ w₄ hw₄ => ?_)
  refine (scratch_swap_back d L ix xin f₄).trans (wp_put d L _ 4 hg (by decide) h₄ (k0_off7_eq t) hw₄ fun f₅ h₅ => ?_)
  refine (scratch_swap d L ix xin f₅).trans (wp_gather d L _ 5 (by decide) hix rfl rfl h9 fun _ w₅ hw₅ => ?_)
  refine (scratch_swap_back d L ix xin f₅).trans (wp_put d L _ 5 hg (by decide) h₅ (k0_off8_eq t) hw₅ fun f₆ h₆ => ?_)
  refine (scratch_swap d L ix xin f₆).trans (wp_gather d L _ 6 (by decide) hix rfl rfl h9 fun _ w₆ hw₆ => ?_)
  refine (scratch_swap_back d L ix xin f₆).trans (wp_put d L _ 6 hg (by decide) h₆ (k0_off9_eq t) hw₆ fun f₇ h₇ => ?_)
  refine (scratch_swap d L ix xin f₇).trans (wp_gather d L _ 7 (by decide) hix rfl rfl h9 fun _ w₇ hw₇ => ?_)
  refine (scratch_swap_back d L ix xin f₇).trans (wp_put d L _ 7 hg (by decide) h₇ (k0_off10_eq t) hw₇ fun f₈ h₈ => ?_)
  rw [wp_ret]
  iintro H
  imodintro
  iexists f₈
  isplitr; · ipureintro; exact h₈.next
  iexact H

/-! ## One chunk: fetched, permuted, written out -/

/-- The first element of the subcore's block of the flat arrays. -/
abbrev base (L : grid0.Coords) : ℕ := 2097152 * (L 1).val + 1048576 * (L 0).val

omit [FloatOps F] in
theorem base_le (L : grid0.Coords) : base L + 1048576 ≤ 33554432 := by
  have h0 : (L 0).val < 2 := (L 0).isLt
  have h1 : (L 1).val < 16 := (L 1).isLt
  unfold base; omega

omit [FloatOps F] in
theorem block_inb (L : grid0.Coords) : ∀ a, (![base L] : Fin 1 → ℕ) a + (![1048576] : Fin 1 → ℕ) a ≤ S33554432.size a := by
  intro a
  obtain rfl : a = (0 : Fin 1) := Subsingleton.elim (α := Fin 1) _ _
  exact base_le L

/-- The block of the output the subcore fills. -/
abbrev block (L : grid0.Coords) : Rect S33554432 := Rect.unit (s := S33554432) ![2097152 * (L 1).val + 1048576 * (L 0).val] ![1048576] (block_inb L)

/-- The first `n` chunks of the subcore's block hold the shuffled rows. -/
def ChunksDone (fo xf : S33554432.Idx → Elt F .f32) (ix : S2048.Idx → Elt F .i32) (b n : ℕ) : Prop :=
  ∀ j : S33554432.Idx, b ≤ (j 0).val → (j 0).val < b + 16384 * n → fo j = Shuffled xf ix j

omit [FloatOps F] in
theorem ChunksDone.zero (fo xf : S33554432.Idx → Elt F .f32) (ix : S2048.Idx → Elt F .i32) (b : ℕ) : ChunksDone fo xf ix b 0 := by
  intro j h h'; omega

omit [FloatOps F] in
/-- Writing a permuted chunk out at its place does that chunk. -/
theorem ChunksDone.step {fo f' xf : S33554432.Idx → Elt F .f32} {ix : S2048.Idx → Elt F .i32} {f xin : S16384.Idx → Elt F .f32} {b k : ℕ}
    (hb : 2048 ∣ b) (hix : ∀ j, (ix j : BitVec 32).toNat < 2048) (hfo : ChunksDone fo xf ix b k) (hf : RowsDone f xin ix 128 0)
    (hxin : ∀ e, e < 16384 → xin (pos e) = xf (pos (b + 16384 * k + e)))
    (hin : ∀ j : S33554432.Idx, ∀ e, e < 16384 → (j 0).val = b + 16384 * k + e → f' j = f (pos e))
    (hout : ∀ j : S33554432.Idx, (j 0).val < b + 16384 * k → f' j = fo j) :
    ChunksDone f' xf ix b (k + 1) := by
  intro j h₁ h₂
  rcases Nat.lt_or_ge (j 0).val (b + 16384 * k) with h | h
  · rw [hout j h]; exact hfo j h₁ h
  · obtain ⟨e, he⟩ := Nat.exists_eq_add_of_le h
    have he' : e < 16384 := by omega
    obtain ⟨c, rfl⟩ := hb
    have h2 := hix (pos (e % 2048))
    rw [hin j e he' he, hf _ (by rw [pos_val _ he']; omega), pos_val _ he', hxin _ (by omega)]
    unfold Shuffled
    rw [show (j 0).val % 2048 = e % 2048 by omega, show (j 0).val / 2048 * 2048 = 2048 * c + 16384 * k + e / 2048 * 2048 by omega]
    simp only [Nat.add_assoc]

omit [FloatOps F] in
theorem base_dvd (L : grid0.Coords) : 2048 ∣ base L := by unfold base; omega

omit [FloatOps F] in
/-- Element `y` of chunk `k` of the subcore's block is number `base + 16384 * k + y` of the flat array. -/
theorem chunk_emb (k : Fin k0_t1_loop.trips) (y : S16384.Idx) :
    (((Rect.unit (s := S33554432) (k0_off1 L k) S16384.size (k0_off1_inb L k)).emb y) 0).val = base L + 16384 * k.val + (y 0).val := by
  show k0_off1 L k 0 + 1 * (y 0).val = _
  rw [k0_off1_eq]
  show base L + 16384 * k.val + 1 * (y 0).val = _
  omega

/-- The outer loop's invariant before trip `k`: the evidence that the waits are admissible, the read shares of `x` and of
    the output's block with `k` chunks done, the table in its scratch, the two chunk buffers at some contents, the two
    transfers' counters at zero, and what the subcore owes. -/
def inv (q : PosShare TreeShare) (xf : S33554432.Idx → Elt F .f32) (ix : S2048.Idx → Elt F .i32) (O : CellTallies nD τ sig (HIx 1)) (W : Waits sig (HIx 1))
    (k : ℕ) (_ : PUnit) : sProp 𝕄 :=
  iprop(Transfers.MayWaits (thr d L) (none : HIx 1) O
    ∗ ((xW).view.loc (thr d L) ↦{q} xf)
    ∗ (∃ fo, ⌜ChunksDone fo xf ix (base L) k⌝ ∗ (oW).view.loc (thr d L) ↦[(oW).view.setOn (block L).set]{fullShare} fo)
    ∗ ((sI).view.loc (thr d L) ↦{fullShare} ix)
    ∗ (∃ f, (sX).view.loc (thr d L) ↦{fullShare} f) ∗ (∃ f, (sO).view.loc (thr d L) ↦{fullShare} f)
    ∗ semVal (thr d L, SemLoc.dma cc0_scoped1.sem) 0 ∗ semVal (thr d L, SemLoc.dma cc0_scoped2.sem) 0
    ∗ ∃ W', ⌜∀ p ∈ W', p ∈ W ∨ p.2 = none⌝ ∗ owes (thr d L) O W')

/-- The inner loop's invariant before trip `t`: the table, the chunk, and the permuted chunk filled below group `t`. -/
def innerInv (ix : S2048.Idx → Elt F .i32) (xin : S16384.Idx → Elt F .f32) (t : ℕ) (_ : PUnit) : sProp 𝕄 :=
  iprop(∃ f, ⌜RowsDone f xin ix t 0⌝ ∗ scratch d L ix xin f)

theorem chunk_run (q : PosShare TreeShare) {xf : S33554432.Idx → Elt F .f32} {ix : S2048.Idx → Elt F .i32} (hix : ∀ j, (ix j : BitVec 32).toNat < 2048)
    (O : CellTallies nD τ sig (HIx 1)) (W : Waits sig (HIx 1)) (k : Fin k0_t1_loop.trips) :
    inv d L q xf ix O W k.val ⟨⟩
      ⊢ wp frame (wpE (defs₀ (F := F)) 𝒱₀ (thr d L) none) Set.univ
          (k0_t1_body L xW (Memref.isWhole_whole _) iW (Memref.isWhole_whole _) oW (Memref.isWhole_whole _)
            sI (Memref.isWhole_whole _) sX (Memref.isWhole_whole _) sO (Memref.isWhole_whole _) cc0_scoped0 cc0_scoped1 cc0_scoped2 k ())
          fun _ => inv d L q xf ix O W (k.val + 1) ⟨⟩ := by
  unfold k0_t1_body inv
  iintro ⟨Hmw, Hx, ⟨%fo, %hfo, Ho⟩, Hi, ⟨%fx, Hsx⟩, ⟨%fs, Hso⟩, Hs1, Hs2, %W', %hW', HO⟩
  sl_exec (disch := exact View.amount_pos _ _ (show 0 < S16384.numel by decide))
  -- what the fetch landed: the chunk of `x`
  generalize hxin : View.write (Elt F) (sX).view fx _ Finset.univ = xin
  replace hxin : xin = ((xW).slice (Rect.unit (s := S33554432) (k0_off1 L k) S16384.size (k0_off1_inb L k)) (fun _ => rfl)).view.read (Elt F) xf :=
    hxin.symm.trans (View.write_whole_univ _ _ _)
  sl_for (innerInv d L ix xin) $$ [Hi Hsx Hso]
  case region =>
    intro t _
    unfold innerInv
    iintro ⟨%f, %hf, H⟩
    iapply (group_run d L hix t hf); iexact H
  · unfold innerInv
    iexists fs
    isplitr; · ipureintro; exact RowsDone.zero _ _ _
    isplitr [Hso]; · (isplitl [Hi]; · iexact Hi
                      iexact Hsx)
    iexact Hso
  iintro %_ HI
  unfold innerInv
  icases HI with ⟨%f, %hf, ⟨Hi, Hsx⟩, Hso⟩
  have hk : k.val < 64 := Nat.lt_of_lt_of_le k.isLt k0_t1_abs.2.1
  sl_exec (disch := exact View.amount_pos _ _ (show 0 < S16384.numel by decide))
  sl_step
  isplitl [Hmw]; · iexact Hmw
  isplitl [Hx]; · iexact Hx
  isplitl [Ho]
  · iexists _
    isplitr [Ho]
    rotate_left
    · iexact Ho
    · ipureintro
      refine hfo.step (base_dvd L) hix hf ?_ ?_ ?_
      · intro e he
        rw [hxin]
        show xf _ = xf _
        congr 1
        exact eq_pos _ _ ((chunk_emb L k (pos e)).trans (by rw [pos_val _ he]))
      · intro j e he hj
        obtain rfl : (Rect.unit (s := S33554432) (k0_off1 L k) S16384.size (k0_off1_inb L k)).emb (pos e) = j :=
          (eq_pos _ _ ((chunk_emb L k (pos e)).trans (by rw [pos_val _ he]))).trans (eq_pos j _ hj).symm
        exact View.write_emb_of_mem (v := ((oW).slice (Rect.unit (s := S33554432) (k0_off1 L k) S16384.size (k0_off1_inb L k)) (fun _ => rfl)).view)
          fo _ (Finset.mem_univ (pos e))
      · intro j hj
        refine View.write_of_not_mem _ _ _ fun hm => ?_
        obtain ⟨y, -, rfl⟩ := Finset.mem_map.mp hm
        have := (chunk_emb L k y).symm.trans_lt hj
        omega
  isplitl [Hi]; · iexact Hi
  isplitl [Hsx]; · iexists _; iexact Hsx
  isplitl [Hso]; · iexists _; iexact Hso
  isplitl [Hs1]; · iexact Hs1
  isplitl [Hs2]; · iexact Hs2
  iexists _; isplitr [HO]
  rotate_left
  · iexact HO
  · ipureintro; intro p hp
    rcases Finset.mem_insert.mp hp with hp | hp
    · exact .inr (hp ▸ rfl)
    rcases Finset.mem_insert.mp hp with hp | hp
    · exact .inr (hp ▸ rfl)
    exact hW' p hp

/-! ## The whole task -/

/-- The arrays the call hands over, as the TensorCore names them: `x` flat, the table, the flat result. -/
abbrev xLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

/-- The 1048576 elements of the flat result from number `b` on. -/
def blk (b : ℕ) : Finset S33554432.Idx := Finset.univ.filter fun j => b ≤ (j 0).val ∧ (j 0).val < b + 1048576

omit [FloatOps F] in
theorem mem_blk {b : ℕ} {j : S33554432.Idx} : j ∈ blk b ↔ b ≤ (j 0).val ∧ (j 0).val < b + 1048576 := by
  unfold blk; rw [Finset.mem_filter]; exact ⟨fun h => h.2, fun h => ⟨Finset.mem_univ _, h⟩⟩

omit [FloatOps F] in
/-- The elements the subcore's block of the output covers are the numbers from `base` on. -/
theorem setOn_block : (oW).view.setOn (block L).set = blk (base L) := by
  refine Finset.map_refl.trans ?_
  ext j
  rw [mem_blk, Rect.mem_set_unit]
  constructor
  · intro h; exact h 0
  · intro h a
    obtain rfl : a = (0 : Fin 1) := Subsingleton.elim (α := Fin 1) _ _
    exact h

/-- What a task holds of the arrays: a read share of `x` and of the table, and its block of the output at contents `fo`. -/
def taskRes (d : Dev nD) (b : ℕ) (qx qi : PosShare TreeShare) (xf : S33554432.Idx → Elt F .f32) (ix : S2048.Idx → Elt F .i32)
    (fo : S33554432.Idx → Elt F .f32) : sProp 𝕄 :=
  iprop((xLoc d ↦{qx} xf) ∗ (iLoc d ↦{qi} ix) ∗ oLoc d ↦[blk b]{fullShare} fo)

/-- The task's three transfer counters, each at zero, are among the subcore's own counters. -/
abbrev cell (d : Dev nD) (L : grid0.Coords) (s : DmaSems sig S_) : GSem nD τ sig := (thr d L, SemLoc.dma s.sem)

omit [FloatOps F] in
theorem ownSems0_V :
    (ownSems0 (thr d L) : sProp 𝕄)
      = iprop(semVal (cell d L cc0_scoped0) 0 ∗ semVal (cell d L cc0_scoped1) 0 ∗ semVal (cell d L cc0_scoped2) 0
          ∗ bigSep ((((ownCells (thr d L)).erase (cell d L cc0_scoped0)).erase (cell d L cc0_scoped1)).erase (cell d L cc0_scoped2))
              fun g => semVal g 0) := by
  unfold SparseCore.Cfg.ownSems0
  rw [SparseCore.bigSep_erase' ((mem_ownCells (g := cell d L cc0_scoped0)).mpr ⟨rfl, by
      show (SemLoc.dma cc0_scoped0.sem : SemLoc sig).isScoped .scVector = true; decide⟩),
    SparseCore.bigSep_erase' (Finset.mem_erase.mpr ⟨by simp [cell]; decide, (mem_ownCells (g := cell d L cc0_scoped1)).mpr ⟨rfl, by
      show (SemLoc.dma cc0_scoped1.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped2)).mpr ⟨rfl, by show (SemLoc.dma cc0_scoped2.sem : SemLoc sig).isScoped .scVector = true; decide⟩⟩⟩)]

omit [FloatOps F] in
/-- The task's three scratch buffers, each at some contents, are among the subcore's own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own := fun b : Ref sig .scVector => SparseCore.Cfg.mem_ownRefs_of_owner (p := Proc.scVector (cV L) (jV L)) (b := (Proc.scVector (cV L) (jV L)).devRef b)
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

/-- THE TASK on the vector subcore at grid point `L` of device `d`: from the arrays it is handed, its scratch, its counters
    at zero and what it owes, it ends, hands back the arrays with its block of the output shuffled, its scratch and its
    counters at zero, and owes nothing new. -/
theorem tile_body (hF : (K (F := F)).Facts) (qx qi : PosShare TreeShare) (xf : S33554432.Idx → Elt F .f32) (ix : S2048.Idx → Elt F .i32)
    (fo : S33554432.Idx → Elt F .f32) (hix : ∀ j, (ix j : BitVec 32).toNat < 2048)
    (O : CellTallies nD τ sig (HIx 1)) (W : Waits sig (HIx 1)) (hO : ∀ g, O g none = 0) :
    iprop(levAts (K (F := F)).L (K (F := F)).lev ∗ emp ∗ taskRes d (base L) qx qi xf ix fo
        ∗ scopedBufs (thr d L) ∗ scopedSems0 (thr d L) ∗ owes (thr d L) O W)
      ⊢ wp frame (wpE (defs₀ (F := F)) 𝒱₀ (thr d L) none) Set.univ
          (cc0__shuffle_body L xW (Memref.isWhole_whole _) iW (Memref.isWhole_whole _) oW (Memref.isWhole_whole _)
            sI (Memref.isWhole_whole _) sX (Memref.isWhole_whole _) sO (Memref.isWhole_whole _) cc0_scoped0 cc0_scoped1 cc0_scoped2)
          fun _ => iprop(taskRes d (base L) qx qi xf ix (Shuffled xf ix) ∗ scopedBufs (thr d L) ∗ scopedSems0 (thr d L)
            ∗ ∃ W', ⌜∀ p ∈ W', p ∈ W ∨ p.2 = none⌝ ∗ owes (thr d L) O W') := by
  simp only [cc0__shuffle_body_eq_skeleton]; unfold cc0__shuffle_body_skel
  rw [(K (F := F)).scopedBufs_V hF d (cV L) (jV L), SparseCore.Cfg.scopedSems0_V (Val := Elt F) d (cV L) (jV L), ownSems0_V, ownBufs_V]
  unfold taskRes
  rw [← setOn_block]
  iintro ⟨#Hlv, -, ⟨Hx, Hi, Ho⟩, ⟨⟨%fi, Hsi⟩, ⟨%fx, Hsx⟩, ⟨%fs, Hso⟩, Hbufs⟩, ⟨Hs0, Hs1, Hs2, Hsems⟩, HO⟩
  ihave Hmw := ((K (F := F)).mayWaits_none (thr := thr d L) hO) $$ Hlv
  ihave Hx := (Entails.of_eq (show (xLoc d ↦{qx} xf : sProp 𝕄) = ((xW).view.loc (thr d L) ↦{qx} xf) from rfl)) $$ Hx
  ihave Hi := (Entails.of_eq (show (iLoc d ↦{qi} ix : sProp 𝕄) = ((iW).view.loc (thr d L) ↦{qi} ix) from rfl)) $$ Hi
  ihave Ho := (Entails.of_eq (show (oLoc d ↦[(oW).view.setOn (block L).set]{fullShare} fo : sProp 𝕄)
    = ((oW).view.loc (thr d L) ↦[(oW).view.setOn (block L).set]{fullShare} fo) from rfl)) $$ Ho
  ihave Hsi := (Entails.of_eq (show ((thr d L).loc cc0_scratch0 ↦{fullShare} fi : sProp 𝕄) = ((sI).view.loc (thr d L) ↦{fullShare} fi) from rfl)) $$ Hsi
  ihave Hsx := (Entails.of_eq (show ((thr d L).loc cc0_scratch1 ↦{fullShare} fx : sProp 𝕄) = ((sX).view.loc (thr d L) ↦{fullShare} fx) from rfl)) $$ Hsx
  ihave Hso := (Entails.of_eq (show ((thr d L).loc cc0_scratch2 ↦{fullShare} fs : sProp 𝕄) = ((sO).view.loc (thr d L) ↦{fullShare} fs) from rfl)) $$ Hso
  sl_exec (disch := exact View.amount_pos _ _ (show 0 < S2048.numel by decide))
  generalize hI : View.write (Elt F) (sI).view fi _ Finset.univ = ix'
  obtain rfl : ix' = ix := hI.symm.trans (View.write_whole_univ _ _ _)
  sl_for (inv d L qx xf ix' O W) $$ [Hmw Hx Ho Hsi Hsx Hso Hs1 Hs2 HO]
  case region =>
    intro k _
    exact chunk_run d L qx hix O W k
  · unfold inv
    isplitl [Hmw]; · iexact Hmw
    isplitl [Hx]; · iexact Hx
    isplitl [Ho]
    · iexists fo; isplitr
      · ipureintro; exact ChunksDone.zero _ _ _ _
      · iexact Ho
    isplitl [Hsi]; · iexact Hsi
    isplitl [Hsx]; · iexists _; iexact Hsx
    isplitl [Hso]; · iexists _; iexact Hso
    isplitl [Hs1]; · iexact Hs1
    isplitl [Hs2]; · iexact Hs2
    iexists _; isplitr [HO]
    rotate_left
    · iexact HO
    · ipureintro; intro p hp
      rcases Finset.mem_insert.mp hp with hp | hp
      · exact .inr (hp ▸ rfl)
      exact .inl hp
  iintro %_ HI
  unfold inv
  icases HI with ⟨-, Hx, ⟨%fo', %hfo, Ho⟩, Hsi, ⟨%fx', Hsx⟩, ⟨%fs', Hso⟩, Hs1, Hs2, %W', %hW', HO⟩
  sl_exec
  sl_step
  isplitl [Hx Hi Ho]
  · isplitl [Hx]; · iexact Hx
    isplitl [Hi]; · iexact Hi
    iapply (Entails.of_eq (pointsTo_congr fun j hj => ?_)) $$ Ho
    rw [setOn_block, mem_blk] at hj
    exact hfo j hj.1 (by exact hj.2)
  isplitl [Hsi Hsx Hso Hbufs]
  · isplitl [Hsi]; · iexists _; iexact Hsi
    isplitl [Hsx]; · iexists _; iexact Hsx
    isplitl [Hso]; · iexists _; iexact Hso
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Task

end Cert.Proof.KernelIdealTask

end
-- ==== Proof.KernelIdealLaunch.lean ====
/-
  THE LAUNCH of the shuffle kernel. The TensorCore reshapes `x` to one dimension, hands every vector subcore of the grid
  a read share of the flat `x`, a read share of the column table and the subcore's own 1048576 elements of the flat
  result, waits for them all, and reshapes the result back. The run ends with the arguments unchanged, every counter at
  zero, and the result at the reshape of the shuffled flat array (`run_main`).
-/
module

public import proofs.«01_k».proof.Proof.KernelIdealTask
public import proofs.«01_k».proof.Proof.Columns

@[expose] public section

noncomputable section

namespace Cert.Proof.KernelIdealLaunch

open Cert.KernelIdeal Cert.KernelIdeal.Gen Cert.Proof.KernelIdealTask

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the launch's handshakes live in the resource algebra. -/
def EH : Emb UH (MT nD τ sig (HIx 1) (Elt F) ℕ UU ℕ) := embL

instance EH_landsIn : (EH : Emb UH 𝕄).LandsIn (upEmb : UEmb _ 𝕄) := by unfold EH; infer_instance

variable (m : (ℓ : Loc nD τ sig) → Buf (Elt F) ℓ) (ρ : Dev nD → PrngReg)

/-- The argument `x` and the result, as the TensorCore names them. -/
abbrev aLoc (d : Dev nD) : Loc nD τ sig := (SparseCore.T d).loc main_arg0
abbrev rLoc (d : Dev nD) : Loc nD τ sig := (SparseCore.T d).loc main_v2

/-- `x` flat, and the flat result. -/
def xFlat (d : Dev nD) : S33554432.Idx → Elt F .f32 := shapeCast S33554432 (m (aLoc d)) shapeCasts_S4x4096x2048_S33554432
def oFlat (d : Dev nD) : S33554432.Idx → Elt F .f32 := Shuffled (xFlat m d) (m (iLoc d))
/-- The result: the flat result at the argument's shape. -/
def result (d : Dev nD) : S4x4096x2048.Idx → Elt F .f32 := shapeCast S4x4096x2048 (oFlat m d) shapeCasts_S33554432_S4x4096x2048

/-- Every word of the table names a column. -/
def PreOK : Prop := ∀ (d : Dev nD) (j : S2048.Idx), (m (iLoc d) j : BitVec 32).toNat < 2048

/-! ## The arrays dealt among the subcores -/

/-- The number of the first element of the block of subcore `i` of SparseCore `c`. -/
def start (c : Fin 2) (i : Fin 16) : ℕ := 2097152 * i.val + 1048576 * c.val

/-- The read share of subcore `i` of SparseCore `c`. -/
def share (c : Fin 2) (i : Fin 16) : PosShare TreeShare := Transfers.dealOf (Transfers.dealOf fullShare Finset.univ c) Finset.univ i

/-- What subcore `i` of SparseCore `c` holds, its block of the result at contents `fo`. -/
def part (fo : (d : Dev nD) → S33554432.Idx → Elt F .f32) (d : Dev nD) (c : Fin 2) (i : Fin 16) : sProp 𝕄 :=
  taskRes d (start c i) (share c i) (share c i) (xFlat m d) (m (iLoc d)) (fo d)

instance part_storable (fo : (d : Dev nD) → S33554432.Idx → Elt F .f32) (d : Dev nD) (c : Fin 2) (i : Fin 16) :
    BI.Storable (upEmb : UEmb _ 𝕄) (part m fo d c i) := by unfold part taskRes; infer_instance

/-- A whole array read by every subcore is held by shares, one each. -/
theorem deal_read {ℓ : Loc nD τ sig} (f : Buf (Elt F) ℓ) :
    (ℓ ↦{fullShare} f : sProp 𝕄) = bigSep Finset.univ fun c : Fin 2 => bigSep Finset.univ fun i : Fin 16 => ℓ ↦{share c i} f := by
  rw [Transfers.pointsTo_deal (Finset.univ : Finset (Fin 2)) Finset.univ_nonempty fullShare]
  exact bigSep_congr fun c _ => Transfers.pointsTo_deal (Finset.univ : Finset (Fin 16)) Finset.univ_nonempty _

/-- Different subcores have disjoint blocks. -/
theorem blk_disjoint (p q : Fin 2 × Fin 16) (h : p ≠ q) : Disjoint (blk (start p.1 p.2)) (blk (start q.1 q.2)) := by
  refine Finset.disjoint_left.mpr fun j h1 h2 => h ?_
  rw [mem_blk] at h1 h2
  unfold start at h1 h2
  have := p.1.isLt; have := q.1.isLt
  exact Prod.ext (Fin.ext (by omega)) (Fin.ext (by omega))

/-- The blocks make up the whole array. -/
theorem blk_cover : ((Finset.univ : Finset (Fin 2)) ×ˢ (Finset.univ : Finset (Fin 16))).biUnion (fun p => blk (start p.1 p.2)) = Finset.univ := by
  refine Finset.eq_univ_iff_forall.mpr fun j => ?_
  have hj : (j 0).val < 33554432 := (j 0).isLt
  refine Finset.mem_biUnion.mpr ⟨(⟨(j 0).val / 1048576 % 2, by omega⟩, ⟨(j 0).val / 2097152, by omega⟩), by simp, ?_⟩
  rw [mem_blk]; unfold start; dsimp only; omega

/-- The whole result array is held by blocks, one each. -/
theorem deal_out (d : Dev nD) (f : S33554432.Idx → Elt F .f32) :
    (oLoc d ↦{fullShare} f : sProp 𝕄)
      = bigSep Finset.univ fun c : Fin 2 => bigSep Finset.univ fun i : Fin 16 => oLoc d ↦[blk (start c i)]{fullShare} f := by
  refine Eq.trans ?_ (SparseCore.bigSep_product (Finset.univ : Finset (Fin 2)) (Finset.univ : Finset (Fin 16))
    (fun p => (oLoc d ↦[blk (start p.1 p.2)]{fullShare} f : sProp 𝕄)))
  rw [← pointsTo_biUnion (ℓ := oLoc d) _ (fun p : Fin 2 × Fin 16 => blk (start p.1 p.2)) (fun p _ q _ h => blk_disjoint p q h), blk_cover]

/-- The call's arrays, dealt to the subcores. -/
theorem deal (fo : (d : Dev nD) → S33554432.Idx → Elt F .f32) (d : Dev nD) :
    (bigSep Finset.univ fun c : Fin 2 => bigSep Finset.univ fun i : Fin 16 => part m fo d c i)
      = (iprop((xLoc d ↦{fullShare} xFlat m d) ∗ (iLoc d ↦{fullShare} m (iLoc d)) ∗ oLoc d ↦{fullShare} fo d) : sProp 𝕄) := by
  rw [deal_read (ℓ := xLoc d), deal_read (ℓ := iLoc d), deal_out]
  unfold part taskRes
  simp only [bigSep_sep']

/-! ## What the launch hands over -/

/-- The flat result before the call, and after it. -/
abbrev before (d : Dev nD) : S33554432.Idx → Elt F .f32 := m (oLoc d)

def P : (K (F := F)).Pay (nD := nD) (Val := Elt F) (Name := ℕ) (U := UU) where
  st := fun q d c => match q with | 0 => bigSep Finset.univ fun i : Fin 16 => part m (before m) d c i
  dn := fun q d c => match q with | 0 => bigSep Finset.univ fun i : Fin 16 => part m (oFlat m) d c i
  go := fun q d c i => match q with | 0 => part m (before m) d c i
  td := fun q d c i => match q with | 0 => part m (oFlat m) d c i
  x := fun _ _ => iprop(emp)

instance P_storable : (P (F := F) m).IsStorable where
  st q d c := match q with
    | 0 => (inferInstance : BI.Storable (upEmb : UEmb _ 𝕄) (bigSep Finset.univ fun i : Fin 16 => part m (before m) d c i))
  dn q d c := match q with
    | 0 => (inferInstance : BI.Storable (upEmb : UEmb _ 𝕄) (bigSep Finset.univ fun i : Fin 16 => part m (oFlat m) d c i))
  go q d c i := match q with
    | 0 => (inferInstance : BI.Storable (upEmb : UEmb _ 𝕄) (part m (before m) d c i))
  td q d c i := match q with
    | 0 => (inferInstance : BI.Storable (upEmb : UEmb _ 𝕄) (part m (oFlat m) d c i))

/-- A SparseCore's part is its subcores' parts. -/
theorem vecSplit : (K (F := F)).VecSplit' (P m) 0 := by
  intro d c
  show (bigSep Finset.univ fun i : Fin 16 => part m (before m) d c i)
    ⊢ |={Set.univ}=> iprop((bigSep Finset.univ fun i : Fin 16 => part m (before m) d c i)
      ∗ ((bigSep Finset.univ fun i : Fin 16 => part m (oFlat m) d c i) -∗ bigSep Finset.univ fun i : Fin 16 => part m (oFlat m) d c i))
  iintro H; imodintro
  isplitl [H]; · iexact H
  iintro H; iexact H

/-! ## The subcores' obligation -/

variable [FloatOps F]

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__shuffle_body (coordsV c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore runs its task. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (share c i) (share c i) (xFlat m d) (m (iLoc d)) (before m d) (hpre d) O W hO).trans
    (wp_mono frame _ _ fun _ => obl_post)

/-! ## The launch's ghost element: the handshakes' rounds, nothing of the kernel's own -/

def u₀ : UU := (initOf (K (F := F)).hsCells (K (F := F)).hsToks, 1)

omit [FloatOps F] in
/-- Nothing, once for each index, is nothing. -/
theorem emp_each {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emp_each]; iempintro
  unfold P; dsimp only
  rw [show (bigSep Finset.univ fun _ : Thread nD τ => bigSep Finset.univ fun _ : Fin 1 => (iprop(emp) : sProp 𝕄)) = iprop(emp) from by
    rw [bigSep_congr fun _ _ => emp_each _, emp_each]]
  iempintro

/-! ## The TensorCore's program -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes around the call. -/
abbrev flatten : HloOp τ sig (Elt F) := StableHlo.reshape main_arg0 main_v0 (rfl : (.f32 : EltTy) = .f32) shapeCasts_S4x4096x2048_S33554432
abbrev unflatten : HloOp τ sig (Elt F) := StableHlo.reshape main_v1 main_v2 (rfl : (.f32 : EltTy) = .f32) shapeCasts_S33554432_S4x4096x2048

/-- The TensorCore's arrays. -/
abbrev S5 : Finset (DevRef τ sig) := {a', i', x', o', r'}

omit [FloatOps F] in
theorem held_S5 (d : Dev nD) (W : Valuation τ sig (Elt F)) :
    (StableHlo.held (T d) S5 W : sProp 𝕄) = iprop((aLoc d ↦{fullShare} W a') ∗ (iLoc d ↦{fullShare} W i') ∗ (xLoc d ↦{fullShare} W x')
      ∗ (oLoc d ↦{fullShare} W o') ∗ rLoc d ↦{fullShare} W r') := by
  unfold StableHlo.held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays' contents at the launch; the same with the flat result and the flat `x` set. -/
def V0 (d : Dev nD) : Valuation τ sig (Elt F) := fun b => m (d, b)
def V1 (d : Dev nD) : Valuation τ sig (Elt F) := Function.update ((flatten (F := F)).result (V0 m d)) o' (oFlat m d)

omit [FloatOps F] in
theorem unscoped_held (d : Dev nD) : (unscopedBufs d (fun b => m ((SparseCore.T d).loc b)) : sProp 𝕄) = StableHlo.held (T d) S5 (V0 m d) := by
  rw [unscopedBufs_eq, held_S5]; rfl

omit [FloatOps F] in
/-- After the first reshape: `x` flat, the other arrays at their launch contents. -/
theorem held_flat (d : Dev nD) :
    (StableHlo.held (T d) S5 ((flatten (F := F)).result (V0 m d)) : sProp 𝕄)
      = iprop((aLoc d ↦{fullShare} m (aLoc d)) ∗ (iLoc d ↦{fullShare} m (iLoc d)) ∗ (xLoc d ↦{fullShare} xFlat m d)
        ∗ (oLoc d ↦{fullShare} m (oLoc d)) ∗ rLoc d ↦{fullShare} m (rLoc d)) := by
  rw [held_S5, StableHlo.reshape_result_ne (h := show main_arg0 ≠ main_v0 by decide), StableHlo.reshape_result_ne (h := show main_arg1 ≠ main_v0 by decide),
    StableHlo.reshape_result_ne (h := show main_v1 ≠ main_v0 by decide), StableHlo.reshape_result_ne (h := show main_v2 ≠ main_v0 by decide),
    StableHlo.reshape_result]
  rfl

omit [FloatOps F] in
/-- After the call: the flat result shuffled. -/
theorem held_called (d : Dev nD) :
    (StableHlo.held (T d) S5 (V1 m d) : sProp 𝕄)
      = iprop((aLoc d ↦{fullShare} m (aLoc d)) ∗ (iLoc d ↦{fullShare} m (iLoc d)) ∗ (xLoc d ↦{fullShare} xFlat m d)
        ∗ (oLoc d ↦{fullShare} oFlat m d) ∗ rLoc d ↦{fullShare} m (rLoc d)) := by
  unfold V1
  rw [held_S5, Function.update_self, Function.update_of_ne (show a' ≠ o' by decide), Function.update_of_ne (show i' ≠ o' by decide),
    Function.update_of_ne (show x' ≠ o' by decide), Function.update_of_ne (show r' ≠ o' by decide),
    StableHlo.reshape_result_ne (h := show main_arg0 ≠ main_v0 by decide), StableHlo.reshape_result_ne (h := show main_arg1 ≠ main_v0 by decide),
    StableHlo.reshape_result_ne (h := show main_v2 ≠ main_v0 by decide), StableHlo.reshape_result]
  rfl

omit [FloatOps F] in
/-- After the second reshape: the result in place, the arguments as they were. -/
theorem held_end (d : Dev nD) :
    (StableHlo.held (T d) S5 ((unflatten (F := F)).result (V1 m d)) : sProp 𝕄)
      = iprop((aLoc d ↦{fullShare} m (aLoc d)) ∗ (iLoc d ↦{fullShare} m (iLoc d)) ∗ (xLoc d ↦{fullShare} xFlat m d)
        ∗ (oLoc d ↦{fullShare} oFlat m d) ∗ rLoc d ↦{fullShare} result m d) := by
  rw [held_S5, StableHlo.reshape_result_ne (h := show main_arg0 ≠ main_v2 by decide), StableHlo.reshape_result_ne (h := show main_arg1 ≠ main_v2 by decide),
    StableHlo.reshape_result_ne (h := show main_v0 ≠ main_v2 by decide), StableHlo.reshape_result_ne (h := show main_v1 ≠ main_v2 by decide),
    StableHlo.reshape_result]
  unfold V1
  rw [Function.update_self, Function.update_of_ne (show a' ≠ o' by decide), Function.update_of_ne (show i' ≠ o' by decide),
    Function.update_of_ne (show x' ≠ o' by decide),
    StableHlo.reshape_result_ne (h := show main_arg0 ≠ main_v0 by decide), StableHlo.reshape_result_ne (h := show main_arg1 ≠ main_v0 by decide),
    StableHlo.reshape_result]
  rfl

omit [FloatOps F] in
theorem flatten_bufs : (flatten (F := F)).bufs ⊆ S5 := show ({a', x'} : Finset (DevRef τ sig)) ⊆ S5 by decide
omit [FloatOps F] in
theorem unflatten_bufs : (unflatten (F := F)).bufs ⊆ S5 := show ({o', r'} : Finset (DevRef τ sig)) ⊆ S5 by decide

/-- What the TensorCore ends with: the arguments at their launch contents, the result in place. -/
abbrev FIN (d : Dev nD) : sProp 𝕄 :=
  iprop((aLoc d ↦{fullShare} m (aLoc d)) ∗ (iLoc d ↦{fullShare} m (iLoc d)) ∗ rLoc d ↦{fullShare} result m d)

omit [FloatOps F] in
/-- What the call hands back: the arrays it took, the flat result shuffled. -/
theorem dn_eq (d : Dev nD) :
    (bigSep Finset.univ fun c : Fin ((K (F := F)).nCore 0) => (P m).dn 0 d c)
      = (iprop((xLoc d ↦{fullShare} xFlat m d) ∗ (iLoc d ↦{fullShare} m (iLoc d)) ∗ oLoc d ↦{fullShare} oFlat m d) : sProp 𝕄) :=
  deal m (oFlat m) d

/-- The TensorCore's program on device `d`: reshape, the call, reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flatten) (S := S5) flatten_bufs (V := V0 m d)) $$ [Hb Hheld]
  · isplitl [Hb]; · iexact Hb
    iexact Hheld
  iintro ⟨Hb, Hheld⟩
  ihave Hh := (Entails.of_eq (held_flat (F := F) m d)) $$ Hheld
  icases Hh with ⟨Ha, Hi, Hx, Ho, Hr⟩
  rw [wp_ret]; imodintro
  iapply ((K (F := F)).wp_run (D (F := F)) 𝒱 (EH := EH) (P := P m) κ d 0) $$ [Hst Hi Hx Ho Hb Ha Hr Hts]
  isplitr; · iexact Hctx
  isplitl [Hst]; · iexact Hst
  isplitl [Hi Hx Ho]
  · iapply (Entails.of_eq (deal (F := F) m (before m) d).symm)
    isplitl [Hx]; · iexact Hx
    isplitl [Hi]; · iexact Hi
    iexact Ho
  iintro ⟨Hst, Hdn⟩
  ihave Hdn' := (Entails.of_eq (dn_eq (F := F) m d)) $$ Hdn
  icases Hdn' with ⟨Hx, Hi, Ho⟩
  iapply (wp_hlo_within 𝒱 (SparseCore.T d) none Set.univ (op := unflatten) (S := S5) unflatten_bufs (V := V1 m d)) $$ [Hb Ha Hi Hx Ho Hr]
  · isplitl [Hb]; · iexact Hb
    rw [held_called]
    isplitl [Ha]; · iexact Ha
    isplitl [Hi]; · iexact Hi
    isplitl [Hx]; · iexact Hx
    isplitl [Ho]; · iexact Ho
    iexact Hr
  iintro ⟨Hb, Hheld⟩
  ihave Hh := (Entails.of_eq (held_end (F := F) m d)) $$ Hheld
  icases Hh with ⟨Ha, Hi, -, -, Hr⟩
  rw [wp_ret]; imodintro; imodintro
  isplitl [Hst]; · iexact Hst
  isplitr [Hb Hts]
  · isplitl [Ha]; · iexact Ha
    isplitl [Hi]; · iexact Hi
    iexact Hr
  isplitl [Hb] <;> iassumption

/-- What the final memory holds on device `d`. -/
def fq (d : Dev nD) (s' : Phys nD τ sig (Elt F)) : Prop :=
  s'.mem.mem (aLoc d) = m (aLoc d) ∧ s'.mem.mem (iLoc d) = m (iLoc d) ∧ s'.mem.mem (rLoc d) = result m d

omit [FloatOps F] in
theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The final state: on every device the arguments unchanged and the result in place; every counter at zero. -/
def QC : PUnit × MemSt nD τ sig (Elt F) → Prop := fun r =>
  (∀ d : Dev nD, r.2.mem (aLoc d) = m (aLoc d) ∧ r.2.mem (iLoc d) = m (iLoc d) ∧ r.2.mem (rLoc d) = result m d) ∧ r.2.sem = fun _ => 0

/-- Every weakly fair run of the program, from a memory whose table names columns, ends in such a state. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

omit [FloatOps F] in
/-- The result is the argument's columns taken by the table. -/
theorem result_eq (hpre : PreOK m) (d : Dev nD) : result m d = Columns.Taken (m (aLoc d)) (m (iLoc d)) := by
  funext j
  have h0 : (j 0).val < 4 := (j 0).isLt
  have h1 : (j 1).val < 4096 := (j 1).isLt
  have h2 : (j 2).val < 2048 := (j 2).isLt
  have hn : ((j 0).val * 4096 + (j 1).val) * 2048 + (j 2).val < 33554432 := by omega
  have hp : Shape.reshapeEquiv shapeCasts_S33554432_S4x4096x2048 j
      = (pos (((j 0).val * 4096 + (j 1).val) * 2048 + (j 2).val) : S33554432.Idx) :=
    Shape.reshapeEquiv_eq_of_rowMajor _ (by
      rw [Shape.rowMajor_val_one, Shape.rowMajor_val_three]; exact pos_val _ hn)
  have hc : (pos ((j 2).val) : S2048.Idx) = Columns.colIx j := (eq_pos (Columns.colIx j) (j 2).val rfl).symm
  have hw := hpre d (Columns.colIx j)
  unfold result shapeCast oFlat Shuffled xFlat shapeCast Columns.Taken
  rw [hp, pos_val _ hn, show (((j 0).val * 4096 + (j 1).val) * 2048 + (j 2).val) / 2048 = (j 0).val * 4096 + (j 1).val by omega,
    show (((j 0).val * 4096 + (j 1).val) * 2048 + (j 2).val) % 2048 = (j 2).val by omega, hc]
  refine congrArg (m (aLoc d)) (Shape.reshapeEquiv_eq_of_rowMajor _ ?_)
  rw [Shape.rowMajor_val_one]
  refine Eq.trans ((Shape.rowMajor_val_three (d := ![4, 4096, 2048]) _).trans ?_) (pos_val _ (by omega)).symm
  show ((j 0).val * 4096 + (j 1).val) * 2048 + (m (iLoc d) (Columns.colIx j) : BitVec 32).toNat % 2048 = _
  rw [Nat.mod_eq_of_lt hw]

end Cert.Proof.KernelIdealLaunch

end
-- ==== Proof.lean ====
/-
  THE CLAIMS. The kernel's run (`KernelLaunch.run_main`, and its twin at exact floats) gives both of its frames; the
  reference's run gives its own; and the two results meet in `Columns.Taken`, the columns of `x` taken by the table.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_channels
public import proofs.«01_k».proof.Proof.Columns
public import proofs.«01_k».proof.Proof.KernelLaunch
public import proofs.«01_k».proof.Proof.KernelIdealLaunch
public import Idealize.ShloMosaic.Adequacy
public import Idealize.ShloMosaic.Init

@[expose] public section

noncomputable section

namespace Cert.Proof

open Idealize.ShloMosaic Idealize.SL.Sem

/-- The precondition gives the table's range, for the program at machine floats, -/
theorem ok_kernel (m : (ℓ : Loc Cert.Kernel.nD Cert.Kernel.τ Cert.Kernel.sig) → Buf (Elt Bits) ℓ)
    (h : haveI := Cert.Pre_channels.Gen.facts; Cert.Pre_Kernel m) : KernelLaunch.PreOK m :=
  fun d k => Columns.in_range _ _ (h d) k

/-- and at exact floats. -/
theorem ok_ideal (m : (ℓ : Loc Cert.KernelIdeal.nD Cert.KernelIdeal.τ Cert.KernelIdeal.sig) → Buf (Elt Ideal) ℓ)
    (h : haveI := Cert.Pre_channels.Gen.facts; Cert.Pre_KernelIdeal m) : KernelIdealLaunch.PreOK m :=
  fun d k => Columns.in_range _ _ (h d) k

/-- The kernel runs, leaves its arguments and every counter as they were: the run with the value dropped. -/
theorem frame_kernel : haveI := Cert.Kernel.Gen.facts; haveI := Cert.Pre_channels.Gen.facts; Cert.quiescent_Kernel := fun m ρ hpre =>
  (θ_run Cert.Kernel.defs _ _).mono (fun _ h => ⟨fun c => ⟨(h.1 c).1, (h.1 c).2.1⟩, h.2⟩) (KernelLaunch.run_main (F := Bits) m ρ (ok_kernel m hpre))

/-- The same at exact floats. -/
theorem frame_ideal : haveI := Cert.KernelIdeal.Gen.facts; haveI := Cert.Pre_channels.Gen.facts; Cert.quiescent_KernelIdeal := fun m ρ hpre =>
  (θ_run Cert.KernelIdeal.defs _ _).mono (fun _ h => ⟨fun c => ⟨(h.1 c).1, (h.1 c).2.1⟩, h.2⟩) (KernelIdealLaunch.run_main (F := Ideal) m ρ (ok_ideal m hpre))

/-- The reference runs and leaves its arguments as they were; it has no counter. -/
theorem frame_reference : haveI := Cert.ReferenceIdeal.Gen.facts; Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : haveI := Cert.ReferenceIdeal.Gen.facts; haveI := Cert.Pre_channels.Gen.facts;
    Cert.quiescent_ReferenceIdeal_pre_channels := fun m ρ _ => frame_reference m ρ trivial

/-- Kernel and reference end with one result: the columns of `x` taken by the table. -/
theorem algebraic : haveI := Cert.KernelIdeal.Gen.facts; haveI := Cert.ReferenceIdeal.Gen.facts; haveI := Cert.Pre_channels.Gen.facts;
    Cert.algebraic_KernelIdeal_ReferenceIdeal := fun m ρ m' ρ' hpre hag => by
  have hok := ok_ideal m hpre
  refine ⟨fun c => KernelIdealLaunch.result m c, (θ_run Cert.KernelIdeal.defs _ _).mono
    (fun _ h c => ⟨(h.1 c).2.2, (h.1 c).1, (h.1 c).2.1⟩) (KernelIdealLaunch.run_main (F := Ideal) m ρ hok), ?_⟩
  refine (θ_run Cert.ReferenceIdeal.defs _ _).mono (fun _ h c => ⟨(h c).1.trans ?_, (h c).2⟩)
    (Columns.run (F := Ideal) m' ρ' fun c k => by rw [(hag c).2]; exact hok c k)
  rw [(hag c).1, (hag c).2]
  exact (KernelIdealLaunch.result_eq m hok c).symm

/-- All the claims, with the facts the programs state. -/
theorem claim : Cert.Claim := ⟨Cert.Kernel.Gen.facts, Cert.KernelIdeal.Gen.facts, Cert.ReferenceIdeal.Gen.facts, Cert.Pre_channels.Gen.facts,
  frame_kernel, frame_ideal, frame_reference, frame_reference_pre, trivial, algebraic⟩

end Cert.Proof

end
